-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_token_per_segment [hPre_one_token_per_segment : Cert.Pre_one_token_per_segment.Facts] (m : (ℓ : Loc Cert.KernelIdeal.nD Cert.KernelIdeal.τ Cert.KernelIdeal.sig) → Buf (Elt Ideal) ℓ) : Prop :=
  ∀ c : Dev Cert.KernelIdeal.nD,
    (Cert.Pre_one_token_per_segment.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_token_per_segment [hPre_one_token_per_segment : Cert.Pre_one_token_per_segment.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_token_per_segment.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_one_token_per_segment [hKernelIdeal : Cert.KernelIdeal.Facts] [hPre_one_token_per_segment : Cert.Pre_one_token_per_segment.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_token_per_segment m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_one_token_per_segment [hReferenceIdeal : Cert.ReferenceIdeal.Facts] [hPre_one_token_per_segment : Cert.Pre_one_token_per_segment.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_token_per_segment m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_one_token_per_segment [hKernelIdeal : Cert.KernelIdeal.Facts] [hReferenceIdeal : Cert.ReferenceIdeal.Facts] [hPre_one_token_per_segment : Cert.Pre_one_token_per_segment.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_token_per_segment m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_one_token_per_segment : Cert.Pre_one_token_per_segment.Facts),
    quiescent_Kernel (hKernel := hKernel)
    ∧ quiescent_KernelIdeal (hKernelIdeal := hKernelIdeal)
    ∧ quiescent_KernelIdeal_pre_one_token_per_segment (hKernelIdeal := hKernelIdeal) (hPre_one_token_per_segment := hPre_one_token_per_segment)
    ∧ quiescent_ReferenceIdeal (hReferenceIdeal := hReferenceIdeal)
    ∧ quiescent_ReferenceIdeal_pre_one_token_per_segment (hReferenceIdeal := hReferenceIdeal) (hPre_one_token_per_segment := hPre_one_token_per_segment)
    ∧ preserves_Kernel_KernelIdeal
    ∧ algebraic_KernelIdeal_ReferenceIdeal_pre_one_token_per_segment (hKernelIdeal := hKernelIdeal) (hReferenceIdeal := hReferenceIdeal) (hPre_one_token_per_segment := hPre_one_token_per_segment)
-- ==== Pre_one_token_per_segment.lean ====
abbrev S32768x256 : Shape := ⟨2, ![32768, 256]⟩
abbrev S32768x1 : Shape := ⟨2, ![32768, 1]⟩
abbrev S_ : Shape := ⟨0, ![]⟩

class Facts : Prop where
  bcast_S_S32768x1 : S_.BroadcastsInDim S32768x1 (![] : Fin 0 → Fin S32768x1.rank)
  reducesTo_S32768x1_S_d0_1 : S32768x1.ReducesTo [0, 1] S_
  h_S_ : 0 < S_.numel

variable [Facts]

def fn {F : FTy → Type} [FloatOps F] (main_arg0 : FVec F S32768x256 .f32) (main_arg1 : FVec F S32768x256 .f32) (main_arg2 : IVec S32768x1 32) : IVec S_ 1 :=
  let main_c : IVec S_ 32 := constantI S_ 32 1#32
  let main_v0 : IVec S32768x1 32 := broadcastInDim S32768x1 ![] bcast_S_S32768x1 main_c
  let main_v1 : IVec S32768x1 1 := cmpi .eq main_arg2 main_v0
  let main_c_0 : IVec S_ 1 := constantI S_ 1 1#1
  let main_v2 : IVec S_ 1 := (fun x v => Host.reduce IntOp.andi x v reducesTo_S32768x1_S_d0_1 h_S_) main_v1 main_c_0
  main_v2
-- ==== Kernel.lean ====
abbrev S32768x256 : Shape := ⟨2, ![32768, 256]⟩
abbrev S32768x1 : Shape := ⟨2, ![32768, 1]⟩
abbrev S32768x512 : Shape := ⟨2, ![32768, 512]⟩
abbrev S4096x256 : Shape := ⟨2, ![4096, 256]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x1, .i32⟩
  | .hbm, ⟨3, _⟩ => ⟨S32768x512, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x512, .f32⟩
  | .local _ .vmem, ⟨5, _⟩ => ⟨S4096x512, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32768x256 : Shape := ⟨2, ![32768, 256]⟩
abbrev S32768x1 : Shape := ⟨2, ![32768, 1]⟩
abbrev S32768 : Shape := ⟨1, ![32768]⟩
abbrev S1 : Shape := ⟨1, ![1]⟩
abbrev S32767 : Shape := ⟨1, ![32767]⟩
abbrev S_ : Shape := ⟨0, ![]⟩
abbrev S1x1 : Shape := ⟨2, ![1, 1]⟩
abbrev S32768x512 : Shape := ⟨2, ![32768, 512]⟩

abbrev nBuf : Space → Nat
  | .hbm => 92
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x1, .i32⟩
  | .hbm, ⟨3, _⟩ => ⟨S32768, .i32⟩
  | .hbm, ⟨4, _⟩ => ⟨S32768, .i32⟩
  | .hbm, ⟨5, _⟩ => ⟨S1, .i32⟩
  | .hbm, ⟨6, _⟩ => ⟨S32767, .i32⟩
  | .hbm, ⟨7, _⟩ => ⟨S32768, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S32768, .i32⟩
  | .hbm, ⟨12, _⟩ => ⟨S_, .i32⟩
  | .hbm, ⟨13, _⟩ => ⟨S_, .i32⟩
  | .hbm, ⟨14, _⟩ => ⟨S32768, .i32⟩
  | .hbm, ⟨15, _⟩ => ⟨S_, .i32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S_, .i32⟩
  | .hbm, ⟨29, _⟩ => ⟨S_, .i32⟩
  | .hbm, ⟨30, _⟩ => ⟨S32768, .i32⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S32768, .i32⟩
  | .hbm, ⟨41, _⟩ => ⟨S32768x1, .i32⟩
  | .hbm, ⟨42, _⟩ => ⟨S1, .i32⟩
  | .hbm, ⟨43, _⟩ => ⟨S_, .i32⟩
  | .hbm, ⟨44, _⟩ => ⟨S32768x1, .i32⟩
  | .hbm, ⟨45, _⟩ => ⟨S32768x1, .i1⟩
  | .hbm, ⟨46, _⟩ => ⟨S1x1, .i32⟩
  | .hbm, ⟨47, _⟩ => ⟨S32768x1, .i32⟩
  | .hbm, ⟨48, _⟩ => ⟨S32768x1, .i1⟩
  | .hbm, ⟨49, _⟩ => ⟨S32768x1, .i1⟩
  | .hbm, ⟨50, _⟩ => ⟨S_, .i1⟩
  | .hbm, ⟨51, _⟩ => ⟨S32768, .i1⟩
  | .hbm, ⟨52, _⟩ => ⟨S32768, .i32⟩
  | .hbm, ⟨53, _⟩ => ⟨S_, .i32⟩
  | .hbm, ⟨54, _⟩ => ⟨S32768, .i32⟩
  | .hbm, ⟨55, _⟩ => ⟨S32768, .i32⟩
  | .hbm, ⟨56, _⟩ => ⟨S_, .f32⟩
  | .hbm, ⟨57, _⟩ => ⟨S32768x256, .f32⟩
  | .hbm, ⟨58, _⟩ => ⟨S32768x1, .i32⟩
  | .hbm, ⟨59, _⟩ => ⟨S32768x256, .f32⟩
  | .hbm, ⟨60, _⟩ => ⟨S32768x1, .i32⟩
  | .hbm, ⟨61, _⟩ => ⟨S32768x1, .f32⟩
  | .hbm, ⟨62, _⟩ => ⟨S32768x256, .f32⟩
  | .hbm, ⟨63, _⟩ => ⟨S32768x256, .f32⟩
  | .hbm, ⟨64, _⟩ => ⟨S_, .i32⟩
  | .hbm, ⟨65, _⟩ => ⟨S_, .i32⟩
  | .hbm, ⟨66, _⟩ => ⟨S32768, .i32⟩
  | .hbm, ⟨67, _⟩ => ⟨S32768, .i32⟩
  | .hbm, ⟨68, _⟩ => ⟨S_, .i32⟩
  | .hbm, ⟨69, _⟩ => ⟨S32768, .i32⟩
  | .hbm, ⟨70, _⟩ => ⟨S32768, .i1⟩
  | .hbm, ⟨71, _⟩ => ⟨S_, .i32⟩
  | .hbm, ⟨72, _⟩ => ⟨S32768, .i32⟩
  | .hbm, ⟨73, _⟩ => ⟨S32768, .i32⟩
  | .hbm, ⟨74, _⟩ => ⟨S32768, .i32⟩
  | .hbm, ⟨75, _⟩ => ⟨S32768x1, .i32⟩
  | .hbm, ⟨76, _⟩ => ⟨S1, .i32⟩
  | .hbm, ⟨77, _⟩ => ⟨S_, .i32⟩
  | .hbm, ⟨78, _⟩ => ⟨S32768x1, .i32⟩
  | .hbm, ⟨79, _⟩ => ⟨S32768x1, .i1⟩
  | .hbm, ⟨80, _⟩ => ⟨S1x1, .i32⟩
  | .hbm, ⟨81, _⟩ => ⟨S32768x1, .i32⟩
  | .hbm, ⟨82, _⟩ => ⟨S32768x1, .i1⟩
  | .hbm, ⟨83, _⟩ => ⟨S32768x1, .i1⟩
  | .hbm, ⟨84, _⟩ => ⟨S_, .i1⟩
  | .hbm, ⟨85, _⟩ => ⟨S32768, .i1⟩
  | .hbm, ⟨86, _⟩ => ⟨S32768x256, .f32⟩
  | .hbm, ⟨87, _⟩ => ⟨S32768x256, .i1⟩
  | .hbm, ⟨88, _⟩ => ⟨S_, .f32⟩
  | .hbm, ⟨89, _⟩ => ⟨S32768x256, .f32⟩
  | .hbm, ⟨90, _⟩ => ⟨S32768x256, .f32⟩
  | .hbm, ⟨91, _⟩ => ⟨S32768x512, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_call1_call0_c : Ref sig .tc := ⟨.hbm, 12, rfl⟩
abbrev main_call1_call0_v0 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_call2_call0_c : Ref sig .tc := ⟨.hbm, 28, rfl⟩
abbrev main_call2_call0_v0 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v18 : Ref sig .tc := ⟨.hbm, 55, rfl⟩
abbrev main_cst : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_call4_call0_c : Ref sig .tc := ⟨.hbm, 64, rfl⟩
abbrev main_call4_call0_v0 : Ref sig .tc := ⟨.hbm, 65, rfl⟩
abbrev main_v26 : Ref sig .tc := ⟨.hbm, 66, rfl⟩
abbrev main_v27 : Ref sig .tc := ⟨.hbm, 67, rfl⟩
abbrev main_call5_c : Ref sig .tc := ⟨.hbm, 68, rfl⟩
abbrev main_call5_v0 : Ref sig .tc := ⟨.hbm, 69, rfl⟩
abbrev main_call5_v1 : Ref sig .tc := ⟨.hbm, 70, rfl⟩
abbrev main_call5_c_0 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_call5_v5 : Ref sig .tc := ⟨.hbm, 75, rfl⟩
abbrev main_call5_c_1 : Ref sig .tc := ⟨.hbm, 76, rfl⟩
abbrev main_call5_c_2 : Ref sig .tc := ⟨.hbm, 77, rfl⟩
abbrev main_call5_v6 : Ref sig .tc := ⟨.hbm, 78, rfl⟩
abbrev main_call5_v7 : Ref sig .tc := ⟨.hbm, 79, rfl⟩
abbrev main_call5_v8 : Ref sig .tc := ⟨.hbm, 80, rfl⟩
abbrev main_call5_v9 : Ref sig .tc := ⟨.hbm, 81, rfl⟩
abbrev main_call5_v10 : Ref sig .tc := ⟨.hbm, 82, rfl⟩
abbrev main_call5_v11 : Ref sig .tc := ⟨.hbm, 83, rfl⟩
abbrev main_call5_c_3 : Ref sig .tc := ⟨.hbm, 84, rfl⟩
abbrev main_call5_v12 : Ref sig .tc := ⟨.hbm, 85, rfl⟩
abbrev main_call5_v13 : Ref sig .tc := ⟨.hbm, 86, rfl⟩
abbrev main_call5_v14 : Ref sig .tc := ⟨.hbm, 87, rfl⟩
abbrev main_call5_cst : Ref sig .tc := ⟨.hbm, 88, rfl⟩
abbrev main_call5_v15 : Ref sig .tc := ⟨.hbm, 89, rfl⟩
abbrev main_v28 : Ref sig .tc := ⟨.hbm, 90, rfl⟩
abbrev main_v29 : Ref sig .tc := ⟨.hbm, 91, rfl⟩

abbrev nD : Nat := 1
abbrev τ : Topo := Topo.v7x

variable {F : FTy → Type} [FloatOps F]
-- ==== Proof.KernelBlock.lean ====
/-
  What the kernel leaves in one output block. The body stores the location block into the left half of the block and the
  time block into the right half; the two stores cover the block, so each entry of the block is the entry of the one or
  the other input block in the same row.
-/
module

public import proofs.«01_k».proof.Proof.Gen.KernelIdeal.Value
public import Idealize.ShloMosaic.Lib.ValueIdxCore

@[expose] public section

noncomputable section

namespace Cert.KernelIdeal.Halves

open Cert.KernelIdeal Cert.KernelIdeal.Gen Idealize.ShloMosaic Idealize.ShloMosaic.ValueIdx

variable {F : FTy → Type} [FloatOps F]

/-- Two arrays of `n` rows and 256 columns side by side. -/
def beside {α : Type} {n : Nat} (x y : (⟨2, ![n, 256]⟩ : Shape).Idx → α) : (⟨2, ![n, 512]⟩ : Shape).Idx → α := fun i =>
  if h : (i 1).val < 256 then x (ix2 (i 0) ⟨(i 1).val, h⟩) else y (ix2 (i 0) ⟨(i 1).val - 256, by have := idx2_lt1 i; omega⟩)

/-- Side by side, an entry of the left half is the first array's, -/
theorem beside_left {α : Type} {n : Nat} (x y : (⟨2, ![n, 256]⟩ : Shape).Idx → α) (p : Fin n) (k : Fin 512) (q : Fin 256) (h : q.val = k.val) :
    beside x y (ix2 p k) = x (ix2 p q) := by
  have hq := q.isLt
  refine (dif_pos (show k.val < 256 by omega)).trans ?_
  exact congrArg x (congrArg (ix2 p) (Fin.ext h.symm))

/-- and an entry of the right half the second array's. -/
theorem beside_right {α : Type} {n : Nat} (x y : (⟨2, ![n, 256]⟩ : Shape).Idx → α) (p : Fin n) (k : Fin 512) (q : Fin 256) (h : q.val + 256 = k.val) :
    beside x y (ix2 p k) = y (ix2 p q) := by
  refine (dif_neg (show ¬k.val < 256 by omega)).trans ?_
  exact congrArg y (congrArg (ix2 p) (Fin.ext (by show k.val - 256 = q.val; omega)))

/-- The body's two stores leave the two input blocks side by side. -/
theorem out_eq_beside (x y : Vec F S4096x256 .f32) : out0_2 x y = beside x y := by
  funext i
  unfold out0_2
  refine View.canon_apply_of_pieces (beside x y) _ (fun p hp => ?_) i (cover0_2 _ _ i)
  rcases List.mem_cons.1 hp with rfl | hp
  · intro j
    obtain ⟨a, b, rfl⟩ : ∃ (a : Fin 4096) (b : Fin 256), j = ix2 a b := ⟨j 0, j 1, eq_ix2 (n0 := 4096) (n1 := 256) j⟩
    have hb := b.isLt
    have e : r0_2.emb (ix2 a b) = ix2 a (⟨b.val + 256, by omega⟩ : Fin 512) := by
      funext d; match d with
      | ⟨0, _⟩ => exact Fin.ext (by show 0 + 1 * a.val = a.val; omega)
      | ⟨1, _⟩ => exact Fin.ext (by show 256 + 1 * b.val = b.val + 256; omega)
    show View.ld y r0_0 (ix2 a b) = beside x y (r0_2.emb (ix2 a b))
    rw [e, beside_right x y a _ b rfl, View.ld_unit_zero (by funext d; match d with | ⟨0, _⟩ => rfl | ⟨1, _⟩ => rfl)]
  · obtain rfl := List.mem_singleton.1 hp
    intro j
    obtain ⟨a, b, rfl⟩ : ∃ (a : Fin 4096) (b : Fin 256), j = ix2 a b := ⟨j 0, j 1, eq_ix2 (n0 := 4096) (n1 := 256) j⟩
    have hb := b.isLt
    have e : r0_1.emb (ix2 a b) = ix2 a (⟨b.val, by omega⟩ : Fin 512) := by
      funext d; match d with
      | ⟨0, _⟩ => exact Fin.ext (by show 0 + 1 * a.val = a.val; omega)
      | ⟨1, _⟩ => exact Fin.ext (by show 0 + 1 * b.val = b.val; omega)
    show View.ld x r0_0 (ix2 a b) = beside x y (r0_1.emb (ix2 a b))
    rw [e, beside_left x y a _ b rfl, View.ld_unit_zero (by funext d; match d with | ⟨0, _⟩ => rfl | ⟨1, _⟩ => rfl)]

end Cert.KernelIdeal.Halves

end
-- ==== Proof.KernelArray.lean ====
/-
  What the kernel's result array holds. Grid point `t` writes rows `4096 t` to `4096 t + 4095`, and what it writes is those
  rows of the two arguments side by side. The eight blocks cover the array, so the result is the two arguments side by
  side.
-/
module

public import proofs.«01_k».proof.Proof.KernelBlock

@[expose] public section

noncomputable section

namespace Cert.KernelIdeal.Halves

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The two float arguments side by side. -/
def joined (c : Dev nD) : Vec F S32768x512 .f32 :=
  beside (m ((c : Thread nD τ).loc main_arg0) : Vec F S32768x256 .f32) (m ((c : Thread nD τ).loc main_arg1) : Vec F S32768x256 .f32)

/-- Every window's block at grid point `t` is block row `t`, at column 0 (checked at the eight points). -/
theorem index_eq : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0))

/-- The array row that is row `a` of block `t`. -/
def row (t : Fin cfg0.N) (a : Fin 4096) : Fin 32768 :=
  ⟨t.val * 4096 + a.val, by have h := t.isLt; have e : cfg0.N = 8 := N_0; have := a.isLt; omega⟩

/-- The location block at point `t` is block row `t` of the location array, -/
theorem block0_apply (c : Dev nD) (t : Fin cfg0.N) (a : Fin 4096) (q : Fin 256) :
    (iblk m c 0 t : Vec F S4096x256 .f32) (ix2 a q) = (m ((c : Thread nD τ).loc main_arg0) : Vec F S32768x256 .f32) (ix2 (row t a) q) := by
  obtain ⟨⟨h0, h1⟩, -, -⟩ := index_eq t
  show (m ((c : Thread nD τ).loc main_arg0) : Vec F S32768x256 .f32) ((win0_0.rect t).emb (ix2 a q)) = _
  refine congrArg (m ((c : Thread nD τ).loc main_arg0) : Vec F S32768x256 .f32) (funext fun d => Fin.ext ?_)
  match d with
  | ⟨0, _⟩ => show win0_0.index t 0 * 4096 + 1 * a.val = t.val * 4096 + a.val; rw [h0]; omega
  | ⟨1, _⟩ => show win0_0.index t 1 * 256 + 1 * q.val = q.val; rw [h1]; omega

/-- and the time block is block row `t` of the time array. -/
theorem block1_apply (c : Dev nD) (t : Fin cfg0.N) (a : Fin 4096) (q : Fin 256) :
    (iblk m c 1 t : Vec F S4096x256 .f32) (ix2 a q) = (m ((c : Thread nD τ).loc main_arg1) : Vec F S32768x256 .f32) (ix2 (row t a) q) := by
  obtain ⟨-, ⟨h0, h1⟩, -⟩ := index_eq t
  show (m ((c : Thread nD τ).loc main_arg1) : Vec F S32768x256 .f32) ((win0_1.rect t).emb (ix2 a q)) = _
  refine congrArg (m ((c : Thread nD τ).loc main_arg1) : Vec F S32768x256 .f32) (funext fun d => Fin.ext ?_)
  match d with
  | ⟨0, _⟩ => show win0_1.index t 0 * 4096 + 1 * a.val = t.val * 4096 + a.val; rw [h0]; omega
  | ⟨1, _⟩ => show win0_1.index t 1 * 256 + 1 * q.val = q.val; rw [h1]; omega

/-- Block row `t` of the joined array, at a block index. -/
theorem block2_apply (c : Dev nD) (t : Fin cfg0.N) (a : Fin 4096) (k : Fin 512) :
    ((win0_2.blk t).view.read (Elt F) (joined m c) : Vec F S4096x512 .f32) (ix2 a k) = joined m c (ix2 (row t a) k) := by
  obtain ⟨-, -, h0, h1⟩ := index_eq t
  show joined m c ((win0_2.rect t).emb (ix2 a k)) = _
  refine congrArg (joined m c) (funext fun d => Fin.ext ?_)
  match d with
  | ⟨0, _⟩ => show win0_2.index t 0 * 4096 + 1 * a.val = t.val * 4096 + a.val; rw [h0]; omega
  | ⟨1, _⟩ => show win0_2.index t 1 * 512 + 1 * k.val = k.val; rw [h1]; omega

/-- The two input blocks side by side are the block of the joined array. -/
theorem beside_blocks (c : Dev nD) (t : Fin cfg0.N) :
    beside (iblk m c 0 t : Vec F S4096x256 .f32) (iblk m c 1 t : Vec F S4096x256 .f32) = ((win0_2.blk t).view.read (Elt F) (joined m c) : Vec F S4096x512 .f32) := by
  funext j
  obtain ⟨a, k, rfl⟩ : ∃ (a : Fin 4096) (k : Fin 512), j = ix2 a k := ⟨j 0, j 1, eq_ix2 (n0 := 4096) (n1 := 512) j⟩
  have hk := k.isLt
  rw [block2_apply]
  unfold joined
  by_cases h : k.val < 256
  · rw [beside_left _ _ a k ⟨k.val, h⟩ rfl, beside_left _ _ (row t a) k ⟨k.val, h⟩ rfl, block0_apply]
  · have e : (⟨k.val - 256, by omega⟩ : Fin 256).val + 256 = k.val := by show k.val - 256 + 256 = k.val; omega
    rw [beside_right _ _ a k _ e, beside_right _ _ (row t a) k _ e, block1_apply]

/-- What point `t` writes back is its block of the joined array. -/
theorem flushed_eq (c : Dev nD) (t : Fin cfg0.N) :
    (dats m 0 c).flushed 2 t = ((cfg0.win 2).blk t).view.read (Elt F) (joined m c) := by
  rw [Value.flushed2, out_eq_beside]
  exact beside_blocks m c t

/-- Every index of the result array lies in the block of the point its row belongs to. -/
theorem cover (i : S32768x512.Idx) : ∃ t : Fin cfg0.N, (cfg0.win 2).flush t = true ∧ i ∈ ((cfg0.win 2).blk t).view.set := by
  have hN : cfg0.N = 8 := N_0
  have b0 : (i 0).val < 32768 := (i 0).isLt
  have b1 : (i 1).val < 512 := (i 1).isLt
  let t : Fin cfg0.N := ⟨(i 0).val / 4096, by omega⟩
  obtain ⟨-, -, h0, h1⟩ := index_eq t
  have ht : t.val = (i 0).val / 4096 := rfl
  refine ⟨t, flush0_2 t, ?_⟩
  show i ∈ ((View.whole main_v0).slice (win0_2.rect t)).set
  rw [View.set_slice_whole, Rect.mem_set_unit]
  intro d
  match d with
  | ⟨0, _⟩ =>
    show win0_2.index t 0 * 4096 ≤ (i 0).val ∧ (i 0).val < win0_2.index t 0 * 4096 + 4096
    rw [h0, ht]; omega
  | ⟨1, _⟩ =>
    show win0_2.index t 1 * 512 ≤ (i 1).val ∧ (i 1).val < win0_2.index t 1 * 512 + 512
    rw [h1]; omega

/-- So the result array ends as the two arguments side by side, -/
theorem final_eq (c : Dev nD) : (dats m 0 c).arrAt 2 cfg0.N = joined m c :=
  (dats m 0 c).arrAt_eq_of_cover 2 (joined m c) (fun t _ => flushed_eq m c t) cover

/-- and every run of the kernel ends there, its arguments unchanged. -/
theorem run : θ_run defs (onTc (τ := τ) (main (F := F))) ⟨m, fun _ => 0, ρ⟩ fun r => ∀ c : Dev nD,
      r.2.mem ((c.tc : Thread nD τ).loc main_v0) = joined m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_eq m c), (h c).2⟩) (Value.run_blocks m ρ)

end Cert.KernelIdeal.Halves

end
-- ==== Proof.RefSegments.lean ====
/-
  The reference's integer work, on counts that are all 1. From the token counts the reference derives, in 32-bit words,
  the segment of each token and the first token of each segment. The steps are named here as the reference writes them,
  and each is read at an index when every count is 1: every segment has one token, so token `p` is in segment `p` and
  segment `p` starts at token `p`.
-/
module

public import proofs.«01_k».proof.Proof.Gen.ReferenceIdeal
public import Idealize.ShloMosaic.Lib.ReduceAll
public import Idealize.ShloMosaic.Lib.Routing.OpsOne
public import Idealize.ShloMosaic.Lib.Routing.OpsSet

@[expose] public section

noncomputable section

namespace Cert.ReferenceIdeal.Segments

open Cert.ReferenceIdeal Cert.ReferenceIdeal.Gen Idealize.ShloMosaic Idealize.ShloMosaic.ValueIdx Idealize.ShloMosaic.Routing
open Idealize.ShloMosaic.StableHlo

/-! ## The steps, as the reference writes them -/

/-- One word at every position. -/
def filled (w : BitVec 32) : IVec S32768 32 := broadcastInDim S32768 ![] bcast_S_S32768 (constantI S_ 32 w)

/-- A vector as one column. -/
def column {w : Nat} (v : IVec S32768 w) : IVec S32768x1 w := broadcastInDim S32768x1 ![0] bcast_S32768_S32768x1_0 v

/-- The running sums of a vector. -/
def running (v : IVec S32768 32) : IVec S32768 32 :=
  Host.reduceWindow IntOp.addi ![32768] ![1] ![32767] ![0] v (broadcastInDim S_ ![] bcast_S_S_ (constantI S_ 32 0#32))
    reduceWindows_S32768_S32768_w32768s1p32767_0 h_S_

/-- The counts moved one place up, with 0 in front. -/
def shifted (v : IVec S32768 32) : IVec S32768 32 :=
  Host.scatter scatter_S32768_S1_S__n_0_0_0 (fun _ b => b)
    (concatenate S32768 0 [⟨S1, extractStridedSlice S1 ![32767] v slices_S32768_S1_32767⟩,
      ⟨S32767, extractStridedSlice S32767 ![0] v slices_S32768_S32767_0⟩] concatenates_S1_S32767_S32768_d0)
    (broadcastInDim S1 ![] bcast_S_S1 (constantI S_ 32 0#32)) (constantI S_ 32 0#32)

/-- A negative position counts from the end. -/
def wrapped (v : IVec S32768 32) : IVec S32768 32 :=
  select (cmpi .slt v (filled 0#32)) (addi v (filled 32768#32)) v

/-- How often each position occurs. -/
def occurrences (v : IVec S32768 32) : IVec S32768 32 :=
  Host.scatter scatter_S32768_S32768x1_S32768_n_0_0_1 IntOp.addi (filled 0#32) (column (wrapped v)) (filled 1#32)

/-- Whether a position lies in the vector. -/
def inside (t : IVec S32768x1 32) : IVec S32768 1 :=
  Host.reduce IntOp.andi
    (andi (cmpi .sge t (broadcastInDim S32768x1 ![] bcast_S_S32768x1 (constantI S_ 32 0#32)))
      (cmpi .sle t (broadcastInDim S32768x1 ![0, 1] bcast_S1x1_S32768x1_0_1
        (broadcastInDim S1x1 ![1] bcast_S1_S1x1_1 (constantI S1 32 32767#32)))))
    (constantI S_ 1 1#1) reducesTo_S32768x1_S32768_d1 h_S_

/-- The position of each token's segment among the segments: segments started so far, less one. -/
def ordinal (v : IVec S32768 32) : IVec S32768 32 :=
  subi (running (occurrences (running (shifted v)))) (filled 1#32)

/-- Each token's segment. -/
def segment (v : IVec S32768 32) : IVec S32768 32 :=
  select (inside (column (wrapped (ordinal v))))
    (Host.gather gather_S32768_S32768x1_S32768_n_0_n_n_0_1_1 (iotaInDim S32768 32 0) (column (wrapped (ordinal v))))
    (filled 2147483648#32)

/-- Each segment's first token. -/
def first (v : IVec S32768 32) : IVec S32768 32 := subi (running v) v

/-! ## The general steps at an index -/

/-- The filled vector holds its word everywhere. -/
theorem filled_apply (w : BitVec 32) (i : S32768.Idx) : filled w i = w := bc0 bcast_S_S32768 (constantI S_ 32 w) i

/-- The column holds the vector's entries. -/
theorem column_apply {w : Nat} (v : IVec S32768 w) (p : Fin 32768) : column v (ix2 p (0 : Fin 1)) = v (ix1 p) :=
  bcCol bcast_S32768_S32768x1_0 v p

/-- The running sums of `f 0, f 1, …` are the partial sums. -/
theorem running_apply (v : IVec S32768 32) (f : Nat → Nat) (hv : ∀ p : Fin 32768, v (ix1 p) = BitVec.ofNat 32 (f p.val)) (p : Fin 32768) :
    running v (ix1 p) = BitVec.ofNat 32 ((List.range (p.val + 1)).map f).sum :=
  cumsum1 (Nm1 := 32767) rfl v f hv _ (bc0 bcast_S_S_ (constantI S_ 32 0#32) ix0) reduceWindows_S32768_S32768_w32768s1p32767_0 h_S_ p

/-- A position that is a small natural number is kept as it is. -/
theorem wrapped_apply (v : IVec S32768 32) (p : Fin 32768) (k : Nat) (hk : k < 2 ^ 31) (hv : v (ix1 p) = BitVec.ofNat 32 k) :
    wrapped v (ix1 p) = BitVec.ofNat 32 k := by
  have h0 : cmpi .slt v (filled 0#32) (ix1 p) = 0#1 := by
    refine eq_zero_of_ne_one fun h => ?_
    change IntOp.cmpi .slt (v (ix1 p)) (filled 0#32 (ix1 p)) = 1#1 at h
    rw [hv, filled_apply] at h
    exact Nat.not_lt_zero _ ((Predicate.slt_ofNat_iff k 0 hk (by decide)).1 h)
  unfold wrapped
  rw [select_apply, h0, select_zero, hv]

/-- A column of positions below 32768 lies inside everywhere. -/
theorem inside_eq_one (t : IVec S32768x1 32) (f : Nat → Nat) (hf : ∀ p : Fin 32768, f p.val < 32768)
    (ht : ∀ p : Fin 32768, t (ix2 p (0 : Fin 1)) = BitVec.ofNat 32 (f p.val)) (i : S32768.Idx) : inside t i = 1#1 := by
  refine Host.reduce_andi_one _ _ _ _ _ rfl fun j => ?_
  obtain ⟨p, rfl⟩ : ∃ p : Fin 32768, j = ix2 p (0 : Fin 1) :=
    ⟨j 0, (eq_ix2 j).trans (congrArg (ix2 (j 0)) (Subsingleton.elim (α := Fin 1) _ _))⟩
  have hp := hf p
  refine IntOp.andi_eq_one.2 ⟨?_, ?_⟩
  · show IntOp.cmpi .sge (t (ix2 p (0 : Fin 1))) (broadcastInDim S32768x1 ![] bcast_S_S32768x1 (constantI S_ 32 0#32) (ix2 p (0 : Fin 1))) = 1#1
    rw [ht, show broadcastInDim S32768x1 ![] bcast_S_S32768x1 (constantI S_ 32 0#32) (ix2 p (0 : Fin 1)) = 0#32 from bc0 bcast_S_S32768x1 _ _]
    exact (Predicate.sle_ofNat_iff 0 (f p.val) (by decide) (by omega)).2 (Nat.zero_le _)
  · show IntOp.cmpi .sle (t (ix2 p (0 : Fin 1))) 32767#32 = 1#1
    rw [ht]
    exact (Predicate.sle_ofNat_iff (f p.val) 32767 (by omega) (by decide)).2 (by omega)

/-! ## One token per segment -/

/-- The counts moved up: 0, then 1s. -/
theorem shifted_apply (v : IVec S32768 32) (hv : ∀ i, v i = 1#32) (p : Fin 32768) :
    shifted v (ix1 p) = BitVec.ofNat 32 (if p.val = 0 then 0 else 1) := by
  unfold shifted
  rw [scatter_one scatter_S32768_S1_S__n_0_0_0 rfl rfl _ _ _ ⟨0, by decide⟩ (by decide) (bc0 bcast_S_S1 (constantI S_ 32 0#32) (ix1 0)) p]
  by_cases h : p.val = 0
  · rw [if_pos (Fin.ext h), if_pos h]; rfl
  · rw [if_neg (fun e => h (congrArg Fin.val e)), if_neg h]
    have hp := p.isLt
    refine (concatenate_pair_apply_right (t := S32768) (s₁ := S1) (s₂ := S32767) 0 _ _ concatenates_S1_S32767_S32768_d0 (ix1 p) rfl rfl
      (ix1 ⟨p.val - 1, by omega⟩) (fun b hb => absurd (Subsingleton.elim (α := Fin 1) _ _) hb) ?_).trans ?_
    · show p.val - 1 + 1 = p.val
      omega
    · exact hv _

/-- The partial sums of 0, 1, 1, …. -/
theorem sum_shifted (k : Nat) : ((List.range (k + 1)).map fun i => if i = 0 then 0 else 1).sum = k := by
  induction k with
  | zero => rfl
  | succ k ih => rw [List.range_succ, List.map_append, List.sum_append, ih]; simp

/-- The partial sums of 1, 1, …. -/
theorem sum_ones (k : Nat) : ((List.range k).map fun _ => 1).sum = k := by simp

/-- Before token `p` there are `p` tokens: the running sum of the shifted counts. -/
theorem running_shifted (v : IVec S32768 32) (hv : ∀ i, v i = 1#32) (p : Fin 32768) :
    running (shifted v) (ix1 p) = BitVec.ofNat 32 p.val := by
  rw [running_apply _ (fun i => if i = 0 then 0 else 1) (shifted_apply v hv), sum_shifted]

/-- Among the first `n` numbers each number below `n` occurs once. -/
theorem count_self (x n : Nat) (h : x < n) : Nat.count (fun i => i = x) n = 1 := by
  induction n with
  | zero => exact absurd h (Nat.not_lt_zero x)
  | succ n ih =>
    rw [Nat.count_succ]
    by_cases e : n = x
    · subst e
      rw [if_pos rfl, Nat.count_of_forall_not fun i hi e => by omega]
    · rw [if_neg e, ih (by omega)]

/-- Each position starts one segment. -/
theorem occurrences_apply (v : IVec S32768 32) (hv : ∀ i, v i = 1#32) (p : Fin 32768) :
    occurrences (running (shifted v)) (ix1 p) = BitVec.ofNat 32 1 := by
  unfold occurrences
  refine (scatter_hist scatter_S32768_S32768x1_S32768_n_0_0_1 rfl rfl rfl _ (fun i => filled_apply _ i) _ _ (fun i => filled_apply _ i)
    (fun i => i) (fun i => ?_) (fun i => by have := i.isLt; omega) p).trans ?_
  · exact (column_apply _ i).trans (wrapped_apply _ i i.val (by have := i.isLt; omega) (running_shifted v hv i))
  · rw [count_self p.val 32768 p.isLt]

/-- Token `p` belongs to the segment at position `p`. -/
theorem ordinal_apply (v : IVec S32768 32) (hv : ∀ i, v i = 1#32) (p : Fin 32768) : ordinal v (ix1 p) = BitVec.ofNat 32 p.val := by
  have hp := p.isLt
  show running (occurrences (running (shifted v))) (ix1 p) - filled 1#32 (ix1 p) = _
  rw [running_apply _ (fun _ => 1) (occurrences_apply v hv), sum_ones, filled_apply, Predicate.sub_one_ofNat _ (by omega) (by omega),
    Nat.add_sub_cancel]

/-- The column of those positions. -/
theorem column_ordinal (v : IVec S32768 32) (hv : ∀ i, v i = 1#32) (p : Fin 32768) :
    column (wrapped (ordinal v)) (ix2 p (0 : Fin 1)) = BitVec.ofNat 32 p.val :=
  (column_apply _ p).trans (wrapped_apply _ p p.val (by have := p.isLt; omega) (ordinal_apply v hv p))

/-- Token `p` is in segment `p`. -/
theorem segment_apply (v : IVec S32768 32) (hv : ∀ i, v i = 1#32) (p : Fin 32768) : segment v (ix1 p) = BitVec.ofNat 32 p.val := by
  unfold segment
  rw [select_apply, inside_eq_one _ (fun i => i) (fun p => p.isLt) (column_ordinal v hv), select_one,
    gather_take1 gather_S32768_S32768x1_S32768_n_0_n_n_0_1_1 rfl rfl rfl rfl _ _ p p (column_ordinal v hv p) (by decide)]
  rfl

/-- Segment `p` starts at token `p`. -/
theorem first_apply (v : IVec S32768 32) (hv : ∀ i, v i = 1#32) (p : Fin 32768) : first v (ix1 p) = BitVec.ofNat 32 p.val := by
  have hp := p.isLt
  show running v (ix1 p) - v (ix1 p) = _
  rw [running_apply v (fun _ => 1) (fun p => hv _), sum_ones, hv, Predicate.sub_one_ofNat _ (by omega) (by omega), Nat.add_sub_cancel]

/-- The column of the first tokens. -/
theorem column_first (v : IVec S32768 32) (hv : ∀ i, v i = 1#32) (p : Fin 32768) :
    column (wrapped (first v)) (ix2 p (0 : Fin 1)) = BitVec.ofNat 32 p.val :=
  (column_apply _ p).trans (wrapped_apply _ p p.val (by have := p.isLt; omega) (first_apply v hv p))

end Cert.ReferenceIdeal.Segments

end
-- ==== Proof.RowScatter.lean ====
/-
  Adding whole rows at row numbers. An `[n, c]` array of updates and one row number per update row: update row `p` is
  added to the operand's row of that number. Here the row numbers are `0, 1, …, n - 1` in order, so every update row
  meets exactly its own row of the operand, and on the extended reals the result is the plain sum of the two arrays.
-/
module

public import Idealize.ShloMosaic.Lib.Routing.Ops
public import Idealize.ShloMosaic.PureOps.Ideal

@[expose] public section

noncomputable section

namespace Cert.RowScatter

open Idealize.ShloMosaic Idealize.ShloMosaic.ValueIdx Idealize.ShloMosaic.Routing

variable {n c : Nat} (d : ScatterDims (shape2 n c) (shape2 n 1) (shape2 n c))

/-- The row number read for an update entry is the one stored for the entry's row. -/
theorem siIdx_eq (huw : d.updateWindowDims = [1]) (hiv : d.indexVectorDim = 1) (p : Fin n) (q : Fin c)
    (k : Fin d.scatterDimsToOperandDims.length) (hk : k.val = 0) : d.siIdx (ix2 p q) k = ix2 p (0 : Fin 1) := by
  funext b
  refine Fin.ext ?_
  match b with
  | ⟨1, _⟩ =>
    unfold ScatterDims.siIdx
    rw [dif_pos (by rw [hiv])]
    exact hk
  | ⟨0, _⟩ =>
    unfold ScatterDims.siIdx
    rw [dif_neg (by rw [hiv]; exact Nat.zero_ne_one)]
    unfold ScatterDims.siCoord
    simp only [Fin.val_cast]
    -- the one update axis that is not a window axis is axis 0
    have only0 : ∀ a ∈ d.uScatter, a = (0 : Fin 2) := fun a ha => by
      have hne : a ∉ d.updateWindowDims := of_decide_eq_true (List.mem_filter.1 ha).2
      rw [huw, List.mem_singleton] at hne
      have h2 : a.val < 2 := a.isLt
      have h1 : a.val ≠ 1 := fun e => hne (Fin.ext e)
      exact Fin.ext (by show a.val = 0; omega)
    have row : ∀ a : Fin 2, a = 0 → (ix2 p q a).val = p.val := fun a e => by subst e; rfl
    exact row _ (only0 _ (List.getElem_mem _))

/-- Where row number `p` is stored for update row `p`, the window of update entry `(p, q)` starts and continues to
    exactly the entry's own coordinates, axis by axis. -/
theorem coord_eq (huw : d.updateWindowDims = [1]) (hin : d.insertedWindowDims = [0]) (hsd : d.scatterDimsToOperandDims = [0])
    (hiv : d.indexVectorDim = 1) (idx : IVec (shape2 n 1) 32) (p : Fin n) (q : Fin c)
    (hp : (idx (ix2 p (0 : Fin 1))).toInt = (p.val : Int)) (a : Fin 2) :
    d.start (ix2 p q) idx a + (d.window (ix2 p q) a : Int) = ((ix2 p q a).val : Int) := by
  match a with
  | ⟨0, _⟩ =>
    have hm : (0 : Fin 2) ∈ d.scatterDimsToOperandDims := by rw [hsd]; exact List.mem_singleton.2 rfl
    have hw : d.window (ix2 p q) 0 = 0 := by
      unfold ScatterDims.window
      exact dif_neg fun h => (of_decide_eq_true (List.mem_filter.1 h).2) (by rw [hin]; exact List.mem_singleton.2 rfl)
    have hs : d.start (ix2 p q) idx 0 = (p.val : Int) := by
      unfold ScatterDims.start
      rw [dif_pos hm, siIdx_eq d huw hiv p q _ (by show List.idxOf (0 : Fin 2) d.scatterDimsToOperandDims = 0; rw [hsd]; simp)]
      exact hp
    show d.start (ix2 p q) idx 0 + (d.window (ix2 p q) 0 : Int) = (p.val : Int)
    rw [hw, hs]
    simp
  | ⟨1, _⟩ =>
    have one_ne : ¬(1 : Fin 2) = 0 := by decide
    have hs : d.start (ix2 p q) idx 1 = 0 := by
      unfold ScatterDims.start
      exact dif_neg fun h => one_ne (List.mem_singleton.1 (hsd ▸ h))
    have hk : (1 : Fin 2) ∈ d.sKept :=
      List.mem_filter.2 ⟨List.mem_finRange _, decide_eq_true fun h => one_ne (List.mem_singleton.1 (hin ▸ h))⟩
    have col : ∀ a : Fin 2, a = 1 → (ix2 p q a).val = q.val := fun a e => by subst e; rfl
    have only1 : ∀ a ∈ d.updateWindowDims, a = (1 : Fin 2) := fun a ha => by
      rw [huw] at ha; exact List.mem_singleton.1 ha
    have hw : d.window (ix2 p q) 1 = q.val := by
      unfold ScatterDims.window
      rw [dif_pos hk]
      exact col _ (only1 _ (List.getElem_mem _))
    show d.start (ix2 p q) idx 1 + (d.window (ix2 p q) 1 : Int) = (q.val : Int)
    rw [hw, hs]
    simp

/-- So every update entry lands at its own index. -/
theorem lands_on_itself (huw : d.updateWindowDims = [1]) (hin : d.insertedWindowDims = [0]) (hsd : d.scatterDimsToOperandDims = [0])
    (hiv : d.indexVectorDim = 1) (idx : IVec (shape2 n 1) 32) (hidx : ∀ p : Fin n, (idx (ix2 p (0 : Fin 1))).toInt = (p.val : Int))
    (j : (shape2 n c).Idx) : d.resultIdx? j idx = some j := by
  obtain ⟨p, q, rfl⟩ : ∃ p q, j = ix2 p q := ⟨_, _, eq_ix2 j⟩
  have hj := fun a => coord_eq d huw hin hsd hiv idx p q (hidx p) a
  unfold ScatterDims.resultIdx?
  rw [dif_pos fun a => ⟨by rw [hj a]; exact Int.natCast_nonneg _, by rw [hj a]; exact Int.ofNat_lt.2 (ix2 p q a).isLt⟩]
  refine congrArg some (funext fun a => Fin.ext ?_)
  show (d.start (ix2 p q) idx a + (d.window (ix2 p q) a : Int)).toNat = (ix2 p q a).val
  rw [hj a, Int.toNat_natCast]

/-- Adding update row `p` to the operand's row `p`, for every `p`, is adding the two arrays (on the extended reals). -/
theorem scatterAdd_rows (huw : d.updateWindowDims = [1]) (hin : d.insertedWindowDims = [0]) (hsd : d.scatterDimsToOperandDims = [0])
    (hiv : d.indexVectorDim = 1) (idx : IVec (shape2 n 1) 32) (hidx : ∀ p : Fin n, (idx (ix2 p (0 : Fin 1))).toInt = (p.val : Int))
    (x upd : FVec Ideal (shape2 n c) .f32) (i : (shape2 n c).Idx) : Host.scatterAdd d x idx upd i = x i + upd i := by
  show Ideal.hostScatterAdd d x idx upd i = x i + upd i
  unfold Ideal.hostScatterAdd
  refine congrArg (x i + ·) ?_
  rw [Finset.sum_eq_single i]
  · intro j hj hne
    rw [Finset.mem_filter, lands_on_itself d huw hin hsd hiv idx hidx] at hj
    exact absurd (Option.some.inj hj.2) hne
  · intro hi
    exact absurd (Finset.mem_filter.2 ⟨Finset.mem_univ i, lands_on_itself d huw hin hsd hiv idx hidx i⟩) hi

end Cert.RowScatter

end
-- ==== Proof.RefValue.lean ====
/-
  What the reference computes when every count is 1. Its segment means are the location rows themselves: each row is
  added to a row of zeros and divided by 1. The time rows it takes at the first tokens are the time rows in order. The
  result has the location rows in its left half and the time rows in its right half.
-/
module

public import proofs.«01_k».proof.Proof.Gen.ReferenceIdeal.Run
public import proofs.«01_k».proof.Proof.RefSegments
public import proofs.«01_k».proof.Proof.RowScatter
public import Idealize.ShloMosaic.Lib.IdealHost

@[expose] public section

noncomputable section

namespace Cert.ReferenceIdeal.Segments

open Cert.ReferenceIdeal Cert.ReferenceIdeal.Gen Idealize.ShloMosaic Idealize.ShloMosaic.TcCoe Idealize.SL.Sem
open Idealize.ShloMosaic.ValueIdx Idealize.ShloMosaic.Routing Idealize.ShloMosaic.StableHlo

/-- The counts as a vector. -/
def counts (h : IVec S32768x1 32) : IVec S32768 32 := shapeCast S32768 h shapeCasts_S32768x1_S32768

/-- The mean of each segment's rows: the rows added up by segment, over the segment's count. -/
def means (x : FVec Ideal S32768x256 .f32) (v : IVec S32768 32) : FVec Ideal S32768x256 .f32 :=
  Host.divf
    (Host.scatterAdd scatter_S32768x256_S32768x1_S32768x256_1_0_0_1
      (broadcastInDim S32768x256 ![] bcast_S_S32768x256 (constant S_ .f32 0x00000000#32)) (column (segment v)) x)
    (broadcastInDim S32768x256 ![0, 1] bcast_S32768x1_S32768x256_0_1 (sitofp .f32 (column v)))

/-- The row of each segment's first token. -/
def firsts (x : FVec Ideal S32768x256 .f32) (v : IVec S32768 32) : FVec Ideal S32768x256 .f32 :=
  select (broadcastInDim S32768x256 ![0] bcast_S32768_S32768x256_0 (inside (column (wrapped (first v)))))
    (Host.gather gather_S32768x256_S32768x1_S32768x256_1_0_n_n_0_1_1256 x (column (wrapped (first v))))
    (broadcastInDim S32768x256 ![] bcast_S_S32768x256 (constant S_ .f32 0x7FC00000#32))

set_option maxRecDepth 8192 in
/-- The reference's result: the means beside the first rows. -/
theorem result_eq (m : (ℓ : Loc nD τ sig) → Buf (Elt Ideal) ℓ) (c : Dev nD) :
    Value.res_out0 m c
      = concatenate S32768x512 1
          [⟨S32768x256, means (m ((c.tc : Thread nD τ).loc main_arg0)) (counts (m ((c.tc : Thread nD τ).loc main_arg2)))⟩,
            ⟨S32768x256, firsts (m ((c.tc : Thread nD τ).loc main_arg1)) (counts (m ((c.tc : Thread nD τ).loc main_arg2)))⟩]
          concatenates_S32768x256_S32768x256_S32768x512_d1 := by
  unfold Value.res_out0 Value.res_main_v29
  rfl

/-- Counts that are all 1 are so as a vector. -/
theorem counts_eq_one (h : IVec S32768x1 32) (hh : ∀ i, h i = 1#32) (i : S32768.Idx) : counts h i = 1#32 := hh _

/-- A column spread over 256 columns repeats its entry along each row. -/
theorem spread_apply {α : Type} (v : S32768x1.Idx → α) (p : Fin 32768) (q : Fin 256) :
    broadcastInDim S32768x256 ![0, 1] bcast_S32768x1_S32768x256_0_1 v (ix2 p q) = v (ix2 p (0 : Fin 1)) := by
  refine broadcastInDim_apply _ bcast_S32768x1_S32768x256_0_1 v _ _ fun a => ?_
  match a with
  | ⟨0, _⟩ => exact (if_neg (show ¬32768 = 1 by decide)).symm
  | ⟨1, _⟩ => exact (if_pos rfl).symm

/-- The word of the float 0 is the number 0. -/
theorem zero_word : (FloatOps.ofBits .f32 0x00000000#32 : Ideal .f32) = (0 : EReal) := Ideal.ofBits_zero_f32

/-- The mean of a segment of one row is the row. -/
theorem means_apply (x : FVec Ideal S32768x256 .f32) (v : IVec S32768 32) (hv : ∀ i, v i = 1#32) (p : Fin 32768) (q : Fin 256) :
    means x v (ix2 p q) = x (ix2 p q) := by
  have hp : ∀ p : Fin 32768, (column (segment v) (ix2 p (0 : Fin 1))).toInt = (p.val : Int) := fun p => by
    rw [column_apply, segment_apply v hv, Predicate.toInt_ofNat_small _ (by have := p.isLt; omega)]
  have hs : Host.scatterAdd scatter_S32768x256_S32768x1_S32768x256_1_0_0_1
      (broadcastInDim S32768x256 ![] bcast_S_S32768x256 (constant (F := Ideal) S_ .f32 0x00000000#32)) (column (segment v)) x (ix2 p q)
      = x (ix2 p q) := by
    refine (RowScatter.scatterAdd_rows scatter_S32768x256_S32768x1_S32768x256_1_0_0_1 rfl rfl rfl rfl _ hp _ x (ix2 p q)).trans ?_
    rw [show broadcastInDim S32768x256 ![] bcast_S_S32768x256 (constant (F := Ideal) S_ .f32 0x00000000#32) (ix2 p q) = (0 : EReal) from
      (bc0 bcast_S_S32768x256 _ _).trans zero_word]
    exact zero_add _
  have hd : broadcastInDim S32768x256 ![0, 1] bcast_S32768x1_S32768x256_0_1 (sitofp (F := Ideal) .f32 (column v)) (ix2 p q) = (1 : EReal) := by
    rw [spread_apply, sitofp_apply, column_apply, hv]
    show (((1#32 : BitVec 32).toInt : ℝ) : EReal) = 1
    norm_num
  show Ideal.div (Host.scatterAdd scatter_S32768x256_S32768x1_S32768x256_1_0_0_1
      (broadcastInDim S32768x256 ![] bcast_S_S32768x256 (constant (F := Ideal) S_ .f32 0x00000000#32)) (column (segment v)) x (ix2 p q))
    (broadcastInDim S32768x256 ![0, 1] bcast_S32768x1_S32768x256_0_1 (sitofp (F := Ideal) .f32 (column v)) (ix2 p q)) = _
  rw [hs, hd]
  unfold Ideal.div
  rw [if_neg one_ne_zero, inv_one, mul_one]

/-- A vector spread over 256 columns repeats its entry along each row. -/
theorem spread_vector_apply {α : Type} (v : S32768.Idx → α) (p : Fin 32768) (q : Fin 256) :
    broadcastInDim S32768x256 ![0] bcast_S32768_S32768x256_0 v (ix2 p q) = v (ix1 p) := by
  refine broadcastInDim_apply _ bcast_S32768_S32768x256_0 v _ _ fun a => ?_
  match a with
  | ⟨0, _⟩ => exact (if_neg (show ¬32768 = 1 by decide)).symm

/-- The first row of a segment of one row is that row. -/
theorem firsts_apply (x : FVec Ideal S32768x256 .f32) (v : IVec S32768 32) (hv : ∀ i, v i = 1#32) (p : Fin 32768) (q : Fin 256) :
    firsts x v (ix2 p q) = x (ix2 p q) := by
  unfold firsts
  rw [select_apply, spread_vector_apply, inside_eq_one _ (fun i => i) (fun p => p.isLt) (column_first v hv), select_one]
  exact gather_row gather_S32768x256_S32768x1_S32768x256_1_0_n_n_0_1_1256 rfl rfl rfl rfl rfl x _ p q p (column_first v hv p) (by decide)

/-- The reference's left half holds the location rows, -/
theorem result_left (m : (ℓ : Loc nD τ sig) → Buf (Elt Ideal) ℓ) (c : Dev nD)
    (hm : ∀ i : S32768x1.Idx, (m ((c.tc : Thread nD τ).loc main_arg2) : IVec S32768x1 32) i = 1#32) (p : Fin 32768) (q : Fin 256) (k : Fin 512)
    (hk : q.val = k.val) :
    (Value.res_out0 m c : FVec Ideal S32768x512 .f32) (ix2 p k) = (m ((c.tc : Thread nD τ).loc main_arg0) : FVec Ideal S32768x256 .f32) (ix2 p q) := by
  rw [result_eq]
  refine (concatenate_pair_apply_left (t := S32768x512) (s₁ := S32768x256) (s₂ := S32768x256) 1 _ _
    concatenates_S32768x256_S32768x256_S32768x512_d1 (ix2 p k) rfl (ix2 p q) fun b => ?_).trans (means_apply _ _ (counts_eq_one _ hm) p q)
  match b with
  | ⟨0, _⟩ => rfl
  | ⟨1, _⟩ => exact hk

/-- and its right half the time rows. -/
theorem result_right (m : (ℓ : Loc nD τ sig) → Buf (Elt Ideal) ℓ) (c : Dev nD)
    (hm : ∀ i : S32768x1.Idx, (m ((c.tc : Thread nD τ).loc main_arg2) : IVec S32768x1 32) i = 1#32) (p : Fin 32768) (q : Fin 256) (k : Fin 512)
    (hk : q.val + 256 = k.val) :
    (Value.res_out0 m c : FVec Ideal S32768x512 .f32) (ix2 p k) = (m ((c.tc : Thread nD τ).loc main_arg1) : FVec Ideal S32768x256 .f32) (ix2 p q) := by
  rw [result_eq]
  refine (concatenate_pair_apply_right (t := S32768x512) (s₁ := S32768x256) (s₂ := S32768x256) 1 _ _
    concatenates_S32768x256_S32768x256_S32768x512_d1 (ix2 p k) rfl rfl (ix2 p q) (fun b hb => ?_) hk).trans (firsts_apply _ _ (counts_eq_one _ hm) p q)
  match b with
  | ⟨0, _⟩ => rfl
  | ⟨1, _⟩ => exact absurd rfl hb

end Cert.ReferenceIdeal.Segments

end
-- ==== Proof.Equation.lean ====
/-
  The equation. Under the precondition every token count is 1, so the reference's result is the location rows beside the
  time rows, which is what the kernel leaves in its result array.
-/
module

public import proofs.«01_k».proof.Defs
public import proofs.«01_k».proof.Proof.Gen.Pre_one_token_per_segment
public import proofs.«01_k».proof.Proof.KernelArray
public import proofs.«01_k».proof.Proof.RefValue
public import Idealize.ShloMosaic.Lib.Quiescent

@[expose] public section

noncomputable section

namespace Cert.Equation

open Idealize.ShloMosaic Idealize.ShloMosaic.TcCoe Idealize.SL.Sem Idealize.ShloMosaic.ValueIdx Idealize.ShloMosaic.Routing

/-- The precondition says that every count is 1. -/
theorem counts_of_pre (x y : FVec Ideal Cert.Pre_one_token_per_segment.S32768x256 .f32) (h : IVec Cert.Pre_one_token_per_segment.S32768x1 32)
    (hp : Cert.Pre_one_token_per_segment.fn (F := Ideal) x y h = fun _ => 1#1) (i : Cert.Pre_one_token_per_segment.S32768x1.Idx) : h i = 1#32 := by
  have : Subsingleton Cert.Pre_one_token_per_segment.S_.Idx := ⟨fun a b => funext fun k => k.elim0⟩
  have e := Host.reduce_andi_all _ _ _ _ ix0 (congrFun hp ix0) i
  have e' := StableHlo.Predicate.cmpi_eq_iff.1 (show IntOp.cmpi .eq (h i) _ = 1#1 from e)
  exact e'.trans (bc0 _ _ i)

/-- From arguments that agree and counts that are all 1, the reference's result is the two arguments side by side. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hc : ∀ i : Cert.ReferenceIdeal.S32768x1.Idx,
      (m' ((c.tc : Thread Cert.ReferenceIdeal.nD Cert.ReferenceIdeal.τ).loc Cert.ReferenceIdeal.main_arg2) : IVec Cert.ReferenceIdeal.S32768x1 32) i = 1#32)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.Value.res_out0 m' c : FVec Ideal Cert.ReferenceIdeal.S32768x512 .f32) = Cert.KernelIdeal.Halves.joined m c := by
  funext i
  obtain ⟨p, k, rfl⟩ : ∃ (p : Fin 32768) (k : Fin 512), i = ix2 p k := ⟨i 0, i 1, eq_ix2 (n0 := 32768) (n1 := 512) i⟩
  have hk := k.isLt
  unfold Cert.KernelIdeal.Halves.joined
  by_cases h : k.val < 256
  · refine (Cert.ReferenceIdeal.Segments.result_left m' c hc p ⟨k.val, h⟩ k rfl).trans ?_
    exact (congrFun h0 _).trans (Cert.KernelIdeal.Halves.beside_left _ _ p k ⟨k.val, h⟩ rfl).symm
  · have e : (⟨k.val - 256, by omega⟩ : Fin 256).val + 256 = k.val := by show k.val - 256 + 256 = k.val; omega
    refine (Cert.ReferenceIdeal.Segments.result_right m' c hc p _ k e).trans ?_
    exact (congrFun h1 _).trans (Cert.KernelIdeal.Halves.beside_right _ _ p k _ e).symm

/-- The value claim: kernel and reference end with the same result. -/
theorem algebraic : Cert.algebraic_KernelIdeal_ReferenceIdeal_pre_one_token_per_segment := by
  intro m g m' g' hpre hagree
  refine ⟨fun c => Cert.KernelIdeal.Halves.joined m c, Cert.KernelIdeal.Halves.run m g, ?_⟩
  refine (θ_run Cert.ReferenceIdeal.defs _ _).mono (fun r h c => ⟨(h c).1.trans ?_, (h c).2⟩) (Cert.ReferenceIdeal.Value.run (F := Ideal) m' g')
  obtain ⟨h0, h1, h2⟩ := hagree c
  refine reference_eq m m' c (fun i => ?_) h0 h1
  exact (congrFun h2 i).trans (counts_of_pre _ _ _ (hpre c) i)

/-- The reference runs, leaves its arguments unchanged and has no counter to leave. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Equation

end
-- ==== Proof.lean ====
/-
  The certificate. The kernel and its idealization run to the end and leave their arguments and counters as they were; so
  does the reference; the idealization rewrote nothing; and with one token per segment kernel and reference end with the
  same result (Equation.lean).
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_one_token_per_segment
public import proofs.«01_k».proof.Proof.Equation

@[expose] public section

noncomputable section

namespace Cert.Proof

/-- Every claim of the certificate holds. -/
theorem claim : Cert.Claim :=
  ⟨Cert.Kernel.Gen.facts, Cert.KernelIdeal.Gen.facts, Cert.ReferenceIdeal.Gen.facts, Cert.Pre_one_token_per_segment.Gen.facts,
    fun m g _ => Cert.Kernel.Gen.frame m g, fun m g _ => Cert.KernelIdeal.Gen.frame m g, fun m g _ => Cert.KernelIdeal.Gen.frame m g,
    Cert.Equation.reference_frame, fun m g _ => Cert.Equation.reference_frame m g trivial, trivial, Cert.Equation.algebraic⟩

end Cert.Proof

end
